-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_graphs_finite_scorer [hPre_equal_graphs_finite_scorer : Cert.Pre_equal_graphs_finite_scorer.Facts] (m : (ℓ : Loc Cert.KernelIdeal.nD Cert.KernelIdeal.τ Cert.KernelIdeal.sig) → Buf (Elt Ideal) ℓ) : Prop :=
  ∀ c : Dev Cert.KernelIdeal.nD,
    (Cert.Pre_equal_graphs_finite_scorer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_graphs_finite_scorer [hPre_equal_graphs_finite_scorer : Cert.Pre_equal_graphs_finite_scorer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_graphs_finite_scorer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_equal_graphs_finite_scorer [hKernelIdeal : Cert.KernelIdeal.Facts] [hPre_equal_graphs_finite_scorer : Cert.Pre_equal_graphs_finite_scorer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_graphs_finite_scorer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_equal_graphs_finite_scorer [hReferenceIdeal : Cert.ReferenceIdeal.Facts] [hPre_equal_graphs_finite_scorer : Cert.Pre_equal_graphs_finite_scorer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_graphs_finite_scorer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_equal_graphs_finite_scorer [hKernelIdeal : Cert.KernelIdeal.Facts] [hReferenceIdeal : Cert.ReferenceIdeal.Facts] [hPre_equal_graphs_finite_scorer : Cert.Pre_equal_graphs_finite_scorer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_graphs_finite_scorer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_equal_graphs_finite_scorer : Cert.Pre_equal_graphs_finite_scorer.Facts),
    quiescent_Kernel (hKernel := hKernel)
    ∧ quiescent_KernelIdeal (hKernelIdeal := hKernelIdeal)
    ∧ quiescent_KernelIdeal_pre_equal_graphs_finite_scorer (hKernelIdeal := hKernelIdeal) (hPre_equal_graphs_finite_scorer := hPre_equal_graphs_finite_scorer)
    ∧ quiescent_ReferenceIdeal (hReferenceIdeal := hReferenceIdeal)
    ∧ quiescent_ReferenceIdeal_pre_equal_graphs_finite_scorer (hReferenceIdeal := hReferenceIdeal) (hPre_equal_graphs_finite_scorer := hPre_equal_graphs_finite_scorer)
    ∧ preserves_Kernel_KernelIdeal
    ∧ algebraic_KernelIdeal_ReferenceIdeal_pre_equal_graphs_finite_scorer (hKernelIdeal := hKernelIdeal) (hReferenceIdeal := hReferenceIdeal) (hPre_equal_graphs_finite_scorer := hPre_equal_graphs_finite_scorer)
-- ==== Pre_equal_graphs_finite_scorer.lean ====
abbrev S32768x128 : Shape := ⟨2, ![32768, 128]⟩
abbrev S17 : Shape := ⟨1, ![17]⟩
abbrev S16 : Shape := ⟨1, ![16]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S17 : S_.BroadcastsInDim S17 (![] : Fin 0 → Fin S17.rank)
  reducesTo_S17_S_d0 : S17.ReducesTo [0] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S32768x128 .f32) (main_arg1 : IVec S17 32) (main_arg2 : FVec F S16 .f32) (main_arg3 : FVec F S128x64 .f32) (main_arg4 : FVec F S64 .f32) (main_arg5 : FVec F S128x64 .f32) (main_arg6 : FVec F S64 .f32) (main_arg7 : FVec F S64x1 .f32) (main_arg8 : FVec F S1 .f32) : IVec S_ 1 :=
  let main_v0 : IVec S17 32 := iotaInDim S17 32 0
  let main_c : IVec S_ 32 := constantI S_ 32 2048#32
  let main_v1 : IVec S17 32 := broadcastInDim S17 ![] bcast_S_S17 main_c
  let main_v2 : IVec S17 32 := muli main_v0 main_v1
  let main_v3 : IVec S17 1 := cmpi .eq main_arg1 main_v2
  let main_c_0 : IVec S_ 1 := constantI S_ 1 1#1
  let main_v4 : IVec S_ 1 := (fun x v => Host.reduce IntOp.andi x v reducesTo_S17_S_d0 h_S_) main_v3 main_c_0
  let main_v5 : FVec F S64x1 .f32 := Host.absf main_arg7
  let main_cst : FVec F S_ .f32 := constant S_ .f32 0x7F800000#32
  let main_v6 : FVec F S64x1 .f32 := broadcastInDim S64x1 ![] bcast_S_S64x1 main_cst
  let main_v7 : IVec S64x1 1 := cmpf .olt main_v5 main_v6
  let main_c_1 : IVec S_ 1 := constantI S_ 1 1#1
  let main_v8 : IVec S_ 1 := (fun x v => Host.reduce IntOp.andi x v reducesTo_S64x1_S_d0_1 h_S_) main_v7 main_c_1
  let main_v9 : IVec S_ 1 := andi main_v4 main_v8
  let main_v10 : FVec F S1 .f32 := Host.absf main_arg8
  let main_cst_2 : FVec F S_ .f32 := constant S_ .f32 0x7F800000#32
  let main_v11 : FVec F S1 .f32 := broadcastInDim S1 ![] bcast_S_S1 main_cst_2
  let main_v12 : IVec S1 1 := cmpf .olt main_v10 main_v11
  let main_c_3 : IVec S_ 1 := constantI S_ 1 1#1
  let main_v13 : IVec S_ 1 := (fun x v => Host.reduce IntOp.andi x v reducesTo_S1_S_d0 h_S_) main_v12 main_c_3
  let main_v14 : IVec S_ 1 := andi main_v9 main_v13
  main_v14
-- ==== Kernel.lean ====
abbrev S32768x128 : Shape := ⟨2, ![32768, 128]⟩
abbrev S17 : Shape := ⟨1, ![17]⟩
abbrev S16 : Shape := ⟨1, ![16]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S128x128 : Shape := ⟨2, ![128, 128]⟩
abbrev S128 : Shape := ⟨1, ![128]⟩
abbrev S1x128 : Shape := ⟨2, ![1, 128]⟩
abbrev S1x1 : Shape := ⟨2, ![1, 1]⟩
abbrev S32768x1 : Shape := ⟨2, ![32768, 1]⟩
abbrev S16x1x128 : Shape := ⟨3, ![16, 1, 128]⟩
abbrev S8192x128 : Shape := ⟨2, ![8192, 128]⟩
abbrev S8192x1 : Shape := ⟨2, ![8192, 1]⟩
abbrev S4x1x128 : Shape := ⟨3, ![4, 1, 128]⟩
abbrev S8192x64 : Shape := ⟨2, ![8192, 64]⟩
abbrev S2048x1 : Shape := ⟨2, ![2048, 1]⟩
abbrev S2048x128 : Shape := ⟨2, ![2048, 128]⟩
abbrev S1x2048x1 : Shape := ⟨3, ![1, 2048, 1]⟩
abbrev S1x1x1 : Shape := ⟨3, ![1, 1, 1]⟩
abbrev S1x1x128 : Shape := ⟨3, ![1, 1, 128]⟩
abbrev S16x128 : Shape := ⟨2, ![16, 128]⟩

abbrev nBuf : Space → Nat
  | .hbm => 22
  | .vmem => 10
  | .smem => 0
  | _ => 0

abbrev bufTy : (tb : Table) → Fin (tcTables nBuf tb) → BufTy
  | .hbm, ⟨0, _⟩ => ⟨S32768x128, .f32⟩
  | .hbm, ⟨1, _⟩ => ⟨S17, .i32⟩
  | .hbm, ⟨2, _⟩ => ⟨S16, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S_, .f32⟩
  | .hbm, ⟨10, _⟩ => ⟨S128x64, .f32⟩
  | .hbm, ⟨11, _⟩ => ⟨S128x64, .f32⟩
  | .hbm, ⟨12, _⟩ => ⟨S128x128, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S128, .f32⟩
  | .hbm, ⟨17, _⟩ => ⟨S1x128, .f32⟩
  | .hbm, ⟨18, _⟩ => ⟨S1x1, .f32⟩
  | .hbm, ⟨19, _⟩ => ⟨S32768x1, .f32⟩
  | .hbm, ⟨20, _⟩ => ⟨S16x1x128, .f32⟩
  | .hbm, ⟨21, _⟩ => ⟨S16x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S64x1, .f32⟩
  | .local _ .vmem, ⟨5, _⟩ => ⟨S1x1, .f32⟩
  | .local _ .vmem, ⟨6, _⟩ => ⟨S8192x1, .f32⟩
  | .local _ .vmem, ⟨7, _⟩ => ⟨S8192x1, .f32⟩
  | .local _ .vmem, ⟨8, _⟩ => ⟨S4x1x128, .f32⟩
  | .local _ .vmem, ⟨9, _⟩ => ⟨S4x1x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32768x128 : Shape := ⟨2, ![32768, 128]⟩
abbrev S17 : Shape := ⟨1, ![17]⟩
abbrev S16 : Shape := ⟨1, ![16]⟩
abbrev S128x64 : Shape := ⟨2, ![128, 64]⟩
abbrev S64 : Shape := ⟨1, ![64]⟩
abbrev S64x1 : Shape := ⟨2, ![64, 1]⟩
abbrev S1 : Shape := ⟨1, ![1]⟩
abbrev S32768x64 : Shape := ⟨2, ![32768, 64]⟩
abbrev S1x64 : Shape := ⟨2, ![1, 64]⟩
abbrev S_ : Shape := ⟨0, ![]⟩
abbrev S32768x1 : Shape := ⟨2, ![32768, 1]⟩
abbrev S1x1 : Shape := ⟨2, ![1, 1]⟩
abbrev S32768 : Shape := ⟨1, ![32768]⟩
abbrev S1x32768 : Shape := ⟨2, ![1, 32768]⟩
abbrev S16x1 : Shape := ⟨2, ![16, 1]⟩
abbrev S16x32768 : Shape := ⟨2, ![16, 32768]⟩
abbrev S1x16 : Shape := ⟨2, ![1, 16]⟩
abbrev S32768x16 : Shape := ⟨2, ![32768, 16]⟩
abbrev S16x128 : Shape := ⟨2, ![16, 128]⟩

abbrev nBuf : Space → Nat
  | .hbm => 88
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S17, .i32⟩
  | .hbm, ⟨2, _⟩ => ⟨S16, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S32768x64, .f32⟩
  | .hbm, ⟨10, _⟩ => ⟨S1x64, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S32768x64, .f32⟩
  | .hbm, ⟨15, _⟩ => ⟨S1x64, .f32⟩
  | .hbm, ⟨16, _⟩ => ⟨S32768x64, .f32⟩
  | .hbm, ⟨17, _⟩ => ⟨S32768x64, .f32⟩
  | .hbm, ⟨18, _⟩ => ⟨S32768x64, .f32⟩
  | .hbm, ⟨19, _⟩ => ⟨S32768x64, .f32⟩
  | .hbm, ⟨20, _⟩ => ⟨S_, .f32⟩
  | .hbm, ⟨21, _⟩ => ⟨S32768x64, .f32⟩
  | .hbm, ⟨22, _⟩ => ⟨S32768x64, .f32⟩
  | .hbm, ⟨23, _⟩ => ⟨S_, .f32⟩
  | .hbm, ⟨24, _⟩ => ⟨S32768x64, .f32⟩
  | .hbm, ⟨25, _⟩ => ⟨S32768x64, .f32⟩
  | .hbm, ⟨26, _⟩ => ⟨S32768x64, .f32⟩
  | .hbm, ⟨27, _⟩ => ⟨S32768x1, .f32⟩
  | .hbm, ⟨28, _⟩ => ⟨S1x1, .f32⟩
  | .hbm, ⟨29, _⟩ => ⟨S32768x1, .f32⟩
  | .hbm, ⟨30, _⟩ => ⟨S32768x1, .f32⟩
  | .hbm, ⟨31, _⟩ => ⟨S16, .i32⟩
  | .hbm, ⟨32, _⟩ => ⟨S32768, .i32⟩
  | .hbm, ⟨33, _⟩ => ⟨S1x32768, .i32⟩
  | .hbm, ⟨34, _⟩ => ⟨S16x1, .i32⟩
  | .hbm, ⟨35, _⟩ => ⟨S16x32768, .i32⟩
  | .hbm, ⟨36, _⟩ => ⟨S16x32768, .i32⟩
  | .hbm, ⟨37, _⟩ => ⟨S16x32768, .i1⟩
  | .hbm, ⟨38, _⟩ => ⟨S16x32768, .i32⟩
  | .hbm, ⟨39, _⟩ => ⟨S_, .i32⟩
  | .hbm, ⟨40, _⟩ => ⟨S32768, .i32⟩
  | .hbm, ⟨41, _⟩ => ⟨S32768, .f32⟩
  | .hbm, ⟨42, _⟩ => ⟨S32768x1, .i32⟩
  | .hbm, ⟨43, _⟩ => ⟨S16, .i32⟩
  | .hbm, ⟨44, _⟩ => ⟨S1x16, .i32⟩
  | .hbm, ⟨45, _⟩ => ⟨S32768x16, .i32⟩
  | .hbm, ⟨46, _⟩ => ⟨S32768x16, .i32⟩
  | .hbm, ⟨47, _⟩ => ⟨S32768x16, .i1⟩
  | .hbm, ⟨48, _⟩ => ⟨S32768x1, .f32⟩
  | .hbm, ⟨49, _⟩ => ⟨S_, .f32⟩
  | .hbm, ⟨50, _⟩ => ⟨S_, .f32⟩
  | .hbm, ⟨51, _⟩ => ⟨S32768x16, .f32⟩
  | .hbm, ⟨52, _⟩ => ⟨S32768x16, .f32⟩
  | .hbm, ⟨53, _⟩ => ⟨S32768x16, .f32⟩
  | .hbm, ⟨54, _⟩ => ⟨S_, .f32⟩
  | .hbm, ⟨55, _⟩ => ⟨S16, .f32⟩
  | .hbm, ⟨56, _⟩ => ⟨S_, .i32⟩
  | .hbm, ⟨57, _⟩ => ⟨S32768, .i32⟩
  | .hbm, ⟨58, _⟩ => ⟨S32768, .i1⟩
  | .hbm, ⟨59, _⟩ => ⟨S_, .i32⟩
  | .hbm, ⟨60, _⟩ => ⟨S32768, .i32⟩
  | .hbm, ⟨61, _⟩ => ⟨S32768, .i32⟩
  | .hbm, ⟨62, _⟩ => ⟨S32768, .i32⟩
  | .hbm, ⟨63, _⟩ => ⟨S32768x1, .i32⟩
  | .hbm, ⟨64, _⟩ => ⟨S32768, .f32⟩
  | .hbm, ⟨65, _⟩ => ⟨S32768, .f32⟩
  | .hbm, ⟨66, _⟩ => ⟨S32768, .f32⟩
  | .hbm, ⟨67, _⟩ => ⟨S_, .f32⟩
  | .hbm, ⟨68, _⟩ => ⟨S16, .f32⟩
  | .hbm, ⟨69, _⟩ => ⟨S32768x1, .i32⟩
  | .hbm, ⟨70, _⟩ => ⟨S16, .f32⟩
  | .hbm, ⟨71, _⟩ => ⟨S_, .i32⟩
  | .hbm, ⟨72, _⟩ => ⟨S32768, .i32⟩
  | .hbm, ⟨73, _⟩ => ⟨S32768, .i1⟩
  | .hbm, ⟨74, _⟩ => ⟨S_, .i32⟩
  | .hbm, ⟨75, _⟩ => ⟨S32768, .i32⟩
  | .hbm, ⟨76, _⟩ => ⟨S32768, .i32⟩
  | .hbm, ⟨77, _⟩ => ⟨S32768, .i32⟩
  | .hbm, ⟨78, _⟩ => ⟨S32768x1, .i32⟩
  | .hbm, ⟨79, _⟩ => ⟨S32768, .f32⟩
  | .hbm, ⟨80, _⟩ => ⟨S32768, .f32⟩
  | .hbm, ⟨81, _⟩ => ⟨S32768x1, .f32⟩
  | .hbm, ⟨82, _⟩ => ⟨S32768x128, .f32⟩
  | .hbm, ⟨83, _⟩ => ⟨S32768x128, .f32⟩
  | .hbm, ⟨84, _⟩ => ⟨S_, .f32⟩
  | .hbm, ⟨85, _⟩ => ⟨S16x128, .f32⟩
  | .hbm, ⟨86, _⟩ => ⟨S32768x1, .i32⟩
  | .hbm, ⟨87, _⟩ => ⟨S16x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_c : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_v34 : Ref sig .tc := ⟨.hbm, 58, rfl⟩
abbrev main_c_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_c_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]
-- ==== Proof.Algebra.lean ====
/-
  The arithmetic of the gate, of the softmax and of the pooling over the extended reals.
-/
module

public import Idealize.ShloMosaic.Lib.Pointwise
public import Mathlib.Analysis.SpecialFunctions.Trigonometric.DerivHyp

@[expose] public section

noncomputable section

namespace Cert.Pooling

open Idealize.ShloMosaic

/-- The 32-bit pattern of one half is the real number one half. -/
theorem half_bits : Ideal.ofBits .f32 0x3F000000#32 = ((1 / 2 : ℝ) : EReal) := by
  simp [Ideal.ofBits, Ideal.ieee, -EReal.coe_mul]
  norm_num

/-- The 32-bit pattern of minus infinity is the bottom element. -/
theorem neg_inf_bits : Ideal.ofBits .f32 0xFF800000#32 = (⊥ : EReal) := by
  simp [Ideal.ofBits, Ideal.ieee]

/-- The 32-bit pattern of infinity is the top element. -/
theorem inf_bits : Ideal.ofBits .f32 0x7F800000#32 = (⊤ : EReal) := by
  simp [Ideal.ofBits, Ideal.ieee]

/-- A real factor that is not negative distributes over a finite sum on the left, whatever the summands. -/
theorem real_mul_sum {ι : Type*} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

/-- The same on the right. -/
theorem sum_mul_real {ι : Type*} (s : Finset ι) (f : ι → EReal) {r : ℝ} (hr : 0 ≤ r) :
    (∑ i ∈ s, f i) * (r : EReal) = ∑ i ∈ s, f i * (r : EReal) := by
  rw [mul_comm, real_mul_sum s f hr]
  exact Finset.sum_congr rfl fun i _ => mul_comm _ _

/-- A real factor that is not negative distributes over a sum of two. -/
theorem real_mul_add {r : ℝ} (hr : 0 ≤ r) (x y : EReal) : (r : EReal) * (x + y) = r * x + r * y :=
  EReal.left_distrib_of_nonneg_of_ne_top (EReal.coe_nonneg.2 hr) (EReal.coe_ne_top r) _ _

/-- A finite sum of reals, taken in the extended reals, is the sum of the reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_real (x : EReal) {y : ℝ} (hy : y ≠ 0) : Ideal.div x (y : EReal) = x * ((y⁻¹ : ℝ) : EReal) := by
  unfold Ideal.div
  rw [if_neg (by exact_mod_cast hy), EReal.coe_inv]

/-- The hyperbolic tangent takes real values only. -/
theorem tanh_real (y : EReal) : ∃ r : ℝ, Ideal.tanh y = r := by
  induction y with
  | bot => exact ⟨-1, by simp⟩
  | top => exact ⟨1, by simp⟩
  | coe r => exact ⟨Real.tanh r, rfl⟩

/-- **The gate.** The logistic function, spelt as a quotient, is an affine image of the hyperbolic tangent at half the
    argument: on the reals and at both infinities. -/
theorem gate (y : EReal) :
    ((1 / 2 : ℝ) : EReal) * Ideal.tanh (((1 / 2 : ℝ) : EReal) * y) + ((1 / 2 : ℝ) : EReal) = Ideal.logistic y := by
  have h2 : (0 : ℝ) < 1 / 2 := by norm_num
  induction y with
  | bot =>
    rw [EReal.coe_mul_bot_of_pos h2, Ideal.tanh_bot, Ideal.logistic_bot]
    have : ((-1 : ℝ) : EReal) = -1 := by simp
    rw [← this, ← EReal.coe_mul, ← EReal.coe_add]
    norm_num
  | top =>
    rw [EReal.coe_mul_top_of_pos h2, Ideal.tanh_top, Ideal.logistic_top, mul_one, ← EReal.coe_add]
    norm_num
  | coe r =>
    rw [← EReal.coe_mul, Ideal.tanh_coe, Ideal.logistic_coe, ← EReal.coe_mul, ← EReal.coe_add]
    congr 1
    have hp := Real.exp_pos (1 / 2 * r)
    have hn := Real.exp_pos (-(1 / 2 * r))
    have hs : Real.exp (-r) = Real.exp (-(1 / 2 * r)) * Real.exp (-(1 / 2 * r)) := by
      rw [← Real.exp_add]; congr 1; ring
    have h1 : Real.exp (1 / 2 * r) * Real.exp (-(1 / 2 * r)) = 1 := by
      rw [← Real.exp_add]; simp
    rw [Real.tanh_eq_sinh_div_cosh, Real.sinh_eq, Real.cosh_eq, hs]
    generalize Real.exp (1 / 2 * r) = a at *
    generalize Real.exp (-(1 / 2 * r)) = b at *
    have hab : a + b ≠ 0 := (add_pos hp hn).ne'
    have hb : 1 + b * b ≠ 0 := (by positivity : (0 : ℝ) < 1 + b * b).ne'
    field_simp
    nlinarith [h1]

/-- The logistic function takes real values only. -/
theorem logistic_real (y : EReal) : ∃ r : ℝ, Ideal.logistic y = r := by
  obtain ⟨r, hr⟩ := tanh_real (((1 / 2 : ℝ) : EReal) * y)
  exact ⟨1 / 2 * r + 1 / 2, by rw [← gate, hr, ← EReal.coe_mul, ← EReal.coe_add]⟩

/-- A finite sum whose terms are real is real. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [← coe_sum]; exact Finset.sum_congr rfl fun i _ => hg i⟩

section Softmax

variable {ι : Type*} [Fintype ι] [Nonempty ι] (s : ι → ℝ) (M : ℝ)

/-- The sum of the exponentials of real scores is a positive real. -/
theorem sum_exp : ∃ z : ℝ, 0 < z ∧ ∑ j, Ideal.exp (s j : EReal) = z := by
  refine ⟨∑ j, Real.exp (s j), Finset.sum_pos (fun j _ => Real.exp_pos _) Finset.univ_nonempty, ?_⟩
  rw [← coe_sum]
  rfl

/-- The reciprocal of the sum of the exponentials of real scores is a real that is not negative. -/
theorem recip_real : ∃ r : ℝ, 0 ≤ r ∧ Ideal.div 1 (∑ j, Ideal.exp (s j : EReal)) = r := by
  obtain ⟨z, hz, e⟩ := sum_exp s
  exact ⟨z⁻¹, inv_nonneg.2 hz.le, by rw [e, div_real _ hz.ne', one_mul]⟩

/-- **The softmax.** Subtracting one real number from every score before the exponential does not change the quotient by
    the sum; and a quotient by the sum is a product with its reciprocal. -/
theorem softmax (i : ι) :
    Ideal.div (Ideal.exp ((s i : EReal) - M)) (∑ j, Ideal.exp ((s j : EReal) - M))
      = Ideal.exp (s i : EReal) * Ideal.div 1 (∑ j, Ideal.exp (s j : EReal)) := by
  have hM : ∀ j, Ideal.exp ((s j : EReal) - M) = ((Real.exp (s j) * Real.exp (-M) : ℝ) : EReal) := fun j => by
    rw [← EReal.coe_sub, ← Real.exp_add, ← sub_eq_add_neg]; rfl
  have hz : (0 : ℝ) < ∑ j, Real.exp (s j) := Finset.sum_pos (fun j _ => Real.exp_pos _) Finset.univ_nonempty
  have hE := Real.exp_pos (-M)
  have e1 : ∑ j, Ideal.exp ((s j : EReal) - M) = (((∑ j, Real.exp (s j)) * Real.exp (-M) : ℝ) : EReal) := by
    rw [Finset.sum_mul, ← coe_sum]; exact Finset.sum_congr rfl fun j _ => hM j
  have e2 : ∑ j, Ideal.exp (s j : EReal) = ((∑ j, Real.exp (s j) : ℝ) : EReal) := by rw [← coe_sum]; rfl
  rw [e1, e2, hM, div_real _ (mul_pos hz hE).ne', div_real _ hz.ne', one_mul]
  show _ = ((Real.exp (s i) : ℝ) : EReal) * _
  rw [← EReal.coe_mul, ← EReal.coe_mul]
  congr 1
  field_simp

end Softmax

end Cert.Pooling

end
-- ==== Proof.Spec.lean ====
/-
  What the layer computes: the score of a node, the attention weight of a node, the pooled features of a graph.
-/
module

public import proofs.«01_k».proof.Proof.Algebra

@[expose] public section

noncomputable section

namespace Cert.Pooling

open Idealize.ShloMosaic

/-- A matrix, and a vector, of extended reals. -/
abbrev Mat (a b : ℕ) := FVec Ideal ⟨2, ![a, b]⟩ .f32
abbrev Arr (a : ℕ) := FVec Ideal ⟨1, ![a]⟩ .f32

/-- Channel `e` of a linear layer with weights `A` and bias `a` at a node with features `x`. -/
def linear (x : Fin 128 → EReal) (A : Mat 128 64) (a : Arr 64) (e : Fin 64) : EReal :=
  ∑ k : Fin 128, x k * A (ix2 k e) + a (ix1 e)

/-- The score of a node with features `x`: the tanh layer gated by the logistic layer, through the last layer. -/
def score (V : Mat 128 64) (v : Arr 64) (U : Mat 128 64) (u : Arr 64) (w : Mat 64 1) (b : Arr 1) (x : Fin 128 → EReal) : EReal :=
  ∑ e : Fin 64, Ideal.tanh (linear x V v e) * Ideal.logistic (linear x U u e) * w (ix2 e 0) + b (ix1 0)

/-- When the last layer's weights and bias are real, the score of every node is real, whatever the rest is. -/
theorem score_real (V : Mat 128 64) (v : Arr 64) (U : Mat 128 64) (u : Arr 64) {w : Mat 64 1} {b : Arr 1}
    (hw : ∀ e : Fin 64, ∃ r : ℝ, w (ix2 e 0) = (r : EReal)) (hb : ∃ r : ℝ, b (ix1 0) = (r : EReal)) (x : Fin 128 → EReal) :
    ∃ r : ℝ, score V v U u w b x = r := by
  obtain ⟨s, hs⟩ := sum_real Finset.univ
    (fun e : Fin 64 => Ideal.tanh (linear x V v e) * Ideal.logistic (linear x U u e) * w (ix2 e 0)) fun e => by
      obtain ⟨p, hp⟩ := tanh_real (linear x V v e)
      obtain ⟨q, hq⟩ := logistic_real (linear x U u e)
      obtain ⟨r, hr⟩ := hw e
      exact ⟨p * q * r, by rw [hp, hq, hr, EReal.coe_mul, EReal.coe_mul]⟩
  obtain ⟨r, hr⟩ := hb
  exact ⟨s + r, by rw [score, hs, hr, EReal.coe_add]⟩

/-- A linear layer whose weights and bias are halved computes half of what it computed. -/
theorem linear_half (x : Fin 128 → EReal) (A : Mat 128 64) (a : Arr 64) (e : Fin 64) :
    ∑ k : Fin 128, x k * (((1 / 2 : ℝ) : EReal) * A (ix2 k e)) + ((1 / 2 : ℝ) : EReal) * a (ix1 e)
      = ((1 / 2 : ℝ) : EReal) * linear x A a e := by
  have h : (0 : ℝ) ≤ 1 / 2 := by norm_num
  rw [linear, real_mul_add h, real_mul_sum _ _ h]
  exact congrArg (· + _) (Finset.sum_congr rfl fun k _ => mul_left_comm _ _ _)

/-- Node `i` of the graph to which node `n` belongs: a graph is 2048 nodes in a row. -/
def peerOf (n : Fin 32768) (i : Fin 2048) : Fin 32768 := ⟨(n : ℕ) / 2048 * 2048 + i, by omega⟩

/-- Node `i` of graph `g`. -/
def nodeOf (g : Fin 16) (i : Fin 2048) : Fin 32768 := ⟨(g : ℕ) * 2048 + i, by omega⟩

/-- The graph to which node `n` belongs. -/
def graphOf (n : Fin 32768) : Fin 16 := ⟨(n : ℕ) / 2048, by omega⟩

section Result

variable (X : Mat 32768 128) (V : Mat 128 64) (v : Arr 64) (U : Mat 128 64) (u : Arr 64) (w : Mat 64 1) (b : Arr 1)

/-- The score of node `n` of the feature matrix `X`. -/
def scoreAt (n : Fin 32768) : EReal := score V v U u w b fun k => X (ix2 n k)

/-- The attention weight of node `n`: the exponential of its score times the reciprocal of the sum of the exponentials
    over its graph. -/
def attention (n : Fin 32768) : EReal :=
  Ideal.exp (scoreAt X V v U u w b n) * Ideal.div 1 (∑ i : Fin 2048, Ideal.exp (scoreAt X V v U u w b (peerOf n i)))

/-- Feature `d` of graph `g`: its nodes' features weighted by the exponentials of their scores, times the reciprocal of
    the sum of the exponentials. -/
def pooled (g : Fin 16) (d : Fin 128) : EReal :=
  (∑ i : Fin 2048, Ideal.exp (scoreAt X V v U u w b (nodeOf g i)) * X (ix2 (nodeOf g i) d))
    * Ideal.div 1 (∑ i : Fin 2048, Ideal.exp (scoreAt X V v U u w b (nodeOf g i)))

end Result

end Cert.Pooling

end
-- ==== Proof.Block.lean ====
/-
  What the body of the kernel leaves in its two output blocks, read at an index.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.Pooling

open Idealize.ShloMosaic Idealize.ShloMosaic.TcCoe Idealize.SL.Sem
open Cert.KernelIdeal Cert.KernelIdeal.Gen

/-- The row of a block that holds node `i` of the graph to which row `r` belongs: a graph is 2048 rows. -/
def peer (r : Fin 8192) (i : Fin 2048) : Fin 8192 := ⟨(r : ℕ) / 2048 * 2048 + i, by omega⟩

/-- The row of a block that holds node `i` of the block's graph `q`. -/
def node (q : Fin 4) (i : Fin 2048) : Fin 8192 := ⟨(q : ℕ) * 2048 + i, by omega⟩

variable (x0 : FVec Ideal S8192x128 .f32) (x1 : FVec Ideal S128x128 .f32) (x2 : FVec Ideal S1x128 .f32)
  (x3 : FVec Ideal S64x1 .f32) (x4 : FVec Ideal S1x1 .f32)

/-- The exponentials of the scores of a block's rows, as the body computes them from its input blocks. -/
abbrev exps (r : Fin 8192) : EReal := k0_pay19 (F := Ideal) x0 x1 x2 x3 x4 (ix2 r 0)

/-- The attention block: each exponential times the reciprocal of the sum over the rows of its graph. -/
theorem att_at (y : S8192x1.Idx) :
    out0_5 (F := Ideal) x0 x1 x2 x3 x4 y
      = exps x0 x1 x2 x3 x4 (y 0) * Ideal.div 1 (∑ i : Fin 2048, exps x0 x1 x2 x3 x4 (peer (y 0) i)) := by
  canon_tiles x h
  all_goals
    pointwise [k0_pay1, k0_pay2, k0_pay3, k0_pay6, k0_pay7, k0_pay8, k0_pay11, k0_pay12, k0_pay13, k0_pay15, k0_pay16, k0_pay17,
      k0_pay19, exps]
    simp only [Fin.sum_univ_one]
    blk_point [peer]

/-- The pooled block: for each graph, the sum of its rows weighted by the exponentials, times the reciprocal of the
    exponentials' sum. -/
theorem pool_at (y : S4x1x128.Idx) :
    out0_6 (F := Ideal) x0 x1 x2 x3 x4 y =
      (∑ i : Fin 2048, exps x0 x1 x2 x3 x4 (node (y 0) i) * x0 (ix2 (node (y 0) i) (y 2))) *
      Ideal.div 1 (∑ i : Fin 2048, exps x0 x1 x2 x3 x4 (node (y 0) i)) := by
  canon_tiles x h
  all_goals
    pointwise [k0_pay1, k0_pay2, k0_pay4, k0_pay6, k0_pay7, k0_pay9, k0_pay10, k0_pay11, k0_pay12, k0_pay14, k0_pay15, k0_pay16,
      k0_pay18, k0_pay19, r0_0, exps]
    simp only [Fin.sum_univ_one]
    blk_point [node]

/-- The exponentials of a block whose first weight matrix is the two layers' weights side by side, the second halved, and
    whose first bias is the two biases side by side, the second halved: those of the scores of its rows. -/
theorem exps_eq (V U : Mat 128 64) (v u : Arr 64) (b : Arr 1)
    (hV : ∀ k (e : Fin 64), x1 (ix2 k ⟨e, by omega⟩) = V (ix2 k e))
    (hU : ∀ k (e : Fin 64), x1 (ix2 k ⟨64 + e, by omega⟩) = ((1 / 2 : ℝ) : EReal) * U (ix2 k e))
    (hv : ∀ e : Fin 64, x2 (ix2 0 ⟨e, by omega⟩) = v (ix1 e))
    (hu : ∀ e : Fin 64, x2 (ix2 0 ⟨64 + e, by omega⟩) = ((1 / 2 : ℝ) : EReal) * u (ix1 e))
    (hb : x4 (ix2 0 0) = b (ix1 0)) (r : Fin 8192) :
    exps x0 x1 x2 x3 x4 r = Ideal.exp (score V v U u x3 b fun k => x0 (ix2 r k)) := by
  unfold exps score
  pointwise [k0_pay19, k0_pay5, r0_0, r0_1, r0_2, r0_3, r0_4]
  simp only [hV, hU, hv, hu, hb, half_bits, linear_half, gate]
  rfl

end Cert.Pooling

end
-- ==== Proof.Arrays.lean ====
/-
  What the two result arrays of the kernel hold after its run.
-/
module

public import proofs.«01_k».proof.Proof.Block
public import Idealize.ShloMosaic.Lib.Claim

@[expose] public section

set_option maxRecDepth 16384

noncomputable section

namespace Cert.Pooling

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The windows' block indices at grid point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0, 0] :=
  (by decide +kernel : ∀ t : Fin grid0.N, _)

/-- The nodes' features, one row per node. -/
abbrev argX : Mat 32768 128 := m ((c : Thread nD τ).loc main_arg0)
/-- The weights of the layer under the hyperbolic tangent. -/
abbrev argV : Mat 128 64 := m ((c : Thread nD τ).loc main_arg3)
/-- The bias of the layer under the hyperbolic tangent. -/
abbrev argv : Arr 64 := m ((c : Thread nD τ).loc main_arg4)
/-- The weights of the layer under the logistic function. -/
abbrev argU : Mat 128 64 := m ((c : Thread nD τ).loc main_arg5)
/-- The bias of the layer under the logistic function. -/
abbrev argu : Arr 64 := m ((c : Thread nD τ).loc main_arg6)
/-- The weights of the last layer. -/
abbrev argw : Mat 64 1 := m ((c : Thread nD τ).loc main_arg7)
/-- The bias of the last layer. -/
abbrev argb : Arr 1 := m ((c : Thread nD τ).loc main_arg8)

/-- The two layers' weights side by side, the second halved, at the region's entry. -/
theorem entry_weights : V m c main_v2 = concatenate S128x128 1 [⟨S128x64, argV m c⟩,
    ⟨S128x64, mulf (F := Ideal) (φ := .f32) (broadcastInDim S128x64 ![] bcast_S_S128x64 (constant S_ .f32 0x3F000000#32)) (argU m c)⟩]
    concatenates_S128x64_S128x64_S128x128_d1 := by
  simp only [V, V0, hostOps0, List.flatten_cons, List.flatten_nil, List.append_nil]
  after_results

/-- The two layers' biases side by side, the second halved, at the region's entry. -/
theorem entry_bias : V m c main_v6 = shapeCast S1x128 (concatenate S128 0 [⟨S64, argv m c⟩,
    ⟨S64, mulf (F := Ideal) (φ := .f32) (broadcastInDim S64 ![] bcast_S_S64 (constant S_ .f32 0x3F000000#32)) (argu m c)⟩]
    concatenates_S64_S64_S128_d0) shapeCasts_S128_S1x128 := by
  simp only [V, V0, hostOps0, List.flatten_cons, List.flatten_nil, List.append_nil]
  after_results
  rfl

/-- The last layer's bias at the region's entry. -/
theorem entry_last : V m c main_v7 = shapeCast S1x1 (argb m c) shapeCasts_S1_S1x1 := by
  simp only [V, V0, hostOps0, List.flatten_cons, List.flatten_nil, List.append_nil]
  after_results
  rfl

/-- The left half of the joined weights is the first layer's. -/
theorem weights_left (k : Fin 128) (e : Fin 64) :
    (V m c main_v2 : Mat 128 128) (ix2 k ⟨e, by omega⟩) = argV m c (ix2 k e) := by
  rw [entry_weights]
  pointwise

/-- The right half of the joined weights is half the second layer's. -/
theorem weights_right (k : Fin 128) (e : Fin 64) :
    (V m c main_v2 : Mat 128 128) (ix2 k ⟨64 + e, by omega⟩) = ((1 / 2 : ℝ) : EReal) * argU m c (ix2 k e) := by
  rw [entry_weights, ← half_bits]
  pointwise

/-- The left half of the joined bias is the first layer's. -/
theorem bias_left (e : Fin 64) : (V m c main_v6 : Mat 1 128) (ix2 0 ⟨e, by omega⟩) = argv m c (ix1 e) := by
  rw [entry_bias]
  pointwise

/-- The right half of the joined bias is half the second layer's. -/
theorem bias_right (e : Fin 64) :
    (V m c main_v6 : Mat 1 128) (ix2 0 ⟨64 + e, by omega⟩) = ((1 / 2 : ℝ) : EReal) * argu m c (ix1 e) := by
  rw [entry_bias, ← half_bits]
  pointwise

/-- The last layer's bias, as a matrix of one entry. -/
theorem bias_last : (V m c main_v7 : Mat 1 1) (ix2 0 0) = argb m c (ix1 0) := by
  rw [entry_last]
  pointwise

/-- Row `r` of the block at grid point `t` is node `n = 8192 t + r`: what the block computes there is the exponential of that
    node's score. -/
theorem exps_block (t : Fin cfg0.N) (r : Fin 8192) (n : Fin 32768) (hn : (n : ℕ) = t.val * 8192 + r) :
    exps (iblk m c 0 t) (iblk m c 1 t) (iblk m c 2 t) (iblk m c 3 t) (iblk m c 4 t) r
      = Ideal.exp (scoreAt (argX m c) (argV m c) (argv m c) (argU m c) (argu m c) (argw m c) (argb m c) n) := by
  refine (exps_eq _ _ _ _ _ (argV m c) (argU m c) (argv m c) (argu m c) (argb m c) (fun k e => Eq.trans ?_ (weights_left m c k e))
    (fun k e => Eq.trans ?_ (weights_right m c k e)) (fun e => Eq.trans ?_ (bias_left m c e)) (fun e => Eq.trans ?_ (bias_right m c e))
    (Eq.trans ?_ (bias_last m c)) r).trans ?_
  · blk_ext [iblk, idx t]
  · blk_ext [iblk, idx t]
  · blk_ext [iblk, idx t]
  · blk_ext [iblk, idx t]
  · blk_ext [iblk, idx t]
  · unfold scoreAt
    have h3 : (iblk m c 3 t : Mat 64 1) = argw m c := by blk_ext! [iblk, V, idx t]
    have h0 : (fun k => (iblk m c 0 t : Mat 8192 128) (ix2 r k)) = fun k => argX m c (ix2 n k) := by
      funext k
      blk_ext [iblk, V, idx t]
    exact congrArg Ideal.exp (congrArg₂ (fun w x => score (argV m c) (argv m c) (argU m c) (argu m c) w (argb m c) x) h3 h0)

/-- After the run the first result array holds every node's attention weight. -/
theorem final_attention : (dats m 0 c).arrAt 5 (cfgs 0).N
    = fun j : S32768x1.Idx => attention (argX m c) (argV m c) (argv m c) (argU m c) (argu m c) (argw m c) (argb m c) (j 0) := by
  refine (dats m 0 c).arrAt_eq_of_covers 5 _ (by decide +kernel) fun t _ y => ?_
  blk_simp
  rw [after0_5]
  refine (att_at _ _ _ _ _ y).trans ?_
  unfold attention
  refine congrArg₂ (· * ·) (exps_block m c t _ _ ?_) (congrArg (Ideal.div 1) (Finset.sum_congr rfl fun i _ => exps_block m c t _ _ ?_))
  · blk_simp [idx t]
  · simp only [peer, peerOf]
    blk_simp [idx t]
    omega

/-- After the run the second result array holds every graph's pooled features. -/
theorem final_pooled : (dats m 0 c).arrAt 6 (cfgs 0).N
    = fun j : S16x1x128.Idx => pooled (argX m c) (argV m c) (argv m c) (argU m c) (argu m c) (argw m c) (argb m c) (j 0) (j 2) := by
  refine (dats m 0 c).arrAt_eq_of_covers 6 _ (by decide +kernel) fun t _ y => ?_
  blk_simp
  rw [after0_6]
  refine (pool_at _ _ _ _ _ y).trans ?_
  unfold pooled
  have hn : ∀ i, ((nodeOf ((win0_6.blk t).view.emb y 0) i : Fin 32768) : ℕ) = t.val * 8192 + (node (y 0) i : Fin 8192) := fun i => by
    simp only [node, nodeOf]
    blk_simp [idx t]
    omega
  refine congrArg₂ (· * ·) (Finset.sum_congr rfl fun i _ => congrArg₂ (· * ·) (exps_block m c t _ _ (hn i)) ?_)
    (congrArg (Ideal.div 1) (Finset.sum_congr rfl fun i _ => exps_block m c t _ _ (hn i)))
  have h := hn i
  blk_ext [iblk, V, idx t]
  exact h.symm

end Cert.Pooling

end
-- ==== Proof.Segments.lean ====
/-
  The reference's operations over the graphs, one at a time: which graph a node belongs to, reading one entry per graph
  at every node, the largest score of a graph, and the sums over a graph's nodes.
-/
module

public import proofs.«01_k».proof.Proof.Spec
public import proofs.«01_k».proof.Proof.Gen.ReferenceIdeal
public import Idealize.ShloMosaic.Lib.Routing.OpsPair
public import Idealize.ShloMosaic.Lib.Routing.OpsSearch
public import Idealize.ShloMosaic.Lib.Pointwise

@[expose] public section

set_option maxRecDepth 16384

noncomputable section

namespace Cert.Pooling

open Idealize.ShloMosaic Idealize.SL.Sem
open Cert.ReferenceIdeal Cert.ReferenceIdeal.Gen

/-- The number of `p < 16` below `k ≤ 16` is `k`. -/
theorem card_below : ∀ k : Fin 17, (Finset.univ.filter fun p : Fin 16 => (p : ℕ) < k).card = k := by decide

/-- A node's graph as the reference counts it: how many of the ends `p[1:]` are at most the node's number. -/
def seg (p : IVec S17 32) : IVec S32768 32 :=
  Host.reduce IntOp.addi (extui 32 (cmpi .sle
    (broadcastInDim S16x32768 ![0, 1] bcast_S16x1_S16x32768_0_1 (broadcastInDim S16x1 ![0] bcast_S16_S16x1_0
      (extractStridedSlice S16 ![1] p slices_S17_S16_1)))
    (broadcastInDim S16x32768 ![0, 1] bcast_S1x32768_S16x32768_0_1 (broadcastInDim S1x32768 ![1] bcast_S32768_S1x32768_1
      (iotaInDim S32768 32 0)))) natLt_1_32) (constantI S_ 32 0#32) reducesTo_S16x32768_S32768_d0 h_S_

/-- When graph `k` begins at node `2048 k`, node `n` belongs to graph `n / 2048`. -/
theorem seg_at (p : IVec S17 32) (hp : ∀ k : Fin 17, p (ix1 k) = BitVec.ofNat 32 (k * 2048)) (n : Fin 32768) :
    seg p (ix1 n) = BitVec.ofNat 32 (graphOf n) := by
  apply BitVec.eq_of_toNat_eq
  refine (StableHlo.Predicate.toNat_reduce_count_rows (by decide) _ natLt_1_32 reducesTo_S16x32768_S32768_d0 h_S_ (ix1 n)).trans ?_
  rw [BitVec.toNat_ofNat, Nat.mod_eq_of_lt (by have := (graphOf n).isLt; omega),
    ← card_below ⟨graphOf n, by have := (graphOf n).isLt; omega⟩]
  refine congrArg Finset.card (Finset.filter_congr fun q _ => ?_)
  have e := hp ⟨q + 1, by omega⟩
  have hi : StableHlo.Predicate.ij q ((ix1 n : S32768.Idx) 0) = ix2 q n := by
    funext a
    match a with
    | ⟨0, _⟩ => rfl
    | ⟨1, _⟩ => rfl
  refine Eq.to_iff (congrArg (· = 1#1) (congrArg _ hi)) |>.trans ?_
  pointwise
  rw [show (⟨1 + (q : ℕ), by omega⟩ : Fin 17) = ⟨q + 1, by omega⟩ from Fin.ext (Nat.add_comm 1 _), e]
  refine (WordCmp.cmpi_sle_ofNat_eq_one_iff (w := 32) (by dsimp only; omega) (by omega)).trans ?_
  show (q.val + 1) * 2048 ≤ n.val ↔ q.val < n.val / 2048
  omega

/-- A vector as a matrix of one column. -/
def column {α : Type} (x : S32768.Idx → α) : S32768x1.Idx → α := broadcastInDim S32768x1 ![0] bcast_S32768_S32768x1_0 x

/-- An entry of a vector, read in its column. -/
theorem column_at {α : Type} (x : S32768.Idx → α) (n : Fin 32768) (z : Fin 1) : column x (ix2 n z) = x (ix1 n) := by
  unfold column
  pointwise

/-- One entry per graph, read at every node: a negative index counts from the end. -/
def spread (x : FVec Ideal S16 .f32) (q : IVec S32768 32) : FVec Ideal S32768 .f32 :=
  Host.gather gather_S16_S32768x1_S32768_n_0_n_n_0_1_1 x (column (select
    (cmpi .slt q (broadcastInDim S32768 ![] bcast_S_S32768 (constantI S_ 32 0#32)))
    (addi q (broadcastInDim S32768 ![] bcast_S_S32768 (constantI S_ 32 16#32))) q))

/-- A node reads the entry of its graph. -/
theorem spread_at (x : FVec Ideal S16 .f32) (q : IVec S32768 32) (n : Fin 32768) (hq : q (ix1 n) = BitVec.ofNat 32 (graphOf n)) :
    spread x q (ix1 n) = x (ix1 (graphOf n)) := by
  have hg := (graphOf n).isLt
  refine Routing.take_ap gather_S16_S32768x1_S32768_n_0_n_n_0_1_1 rfl rfl rfl rfl x _ n hg (by omega) ?_
  rw [← ix2_eq_valueIdx, column_at]
  refine Eq.trans ?_ hq
  exact Routing.wrap_of_lt _ _ (by rw [hq, BitVec.toNat_ofNat]; omega)

/-- The largest score of every graph: the maximum, over all nodes, of the score where the node belongs to the graph and
    of minus infinity where it does not. -/
def segMax (q : IVec S32768 32) (s : FVec Ideal S32768 .f32) : FVec Ideal S16 .f32 :=
  Host.reduce FloatOps.maximumf (select
    (cmpi .eq (broadcastInDim S32768x16 ![0, 1] bcast_S32768x1_S32768x16_0_1 (column q))
      (broadcastInDim S32768x16 ![0, 1] bcast_S1x16_S32768x16_0_1 (broadcastInDim S1x16 ![1] bcast_S16_S1x16_1 (iotaInDim S16 32 0))))
    (broadcastInDim S32768x16 ![0, 1] bcast_S32768x1_S32768x16_0_1 (column s))
    (broadcastInDim S32768x16 ![] bcast_S_S32768x16 (id (constant S_ .f32 0xFF800000#32))))
    (constant S_ .f32 0xFF800000#32) reducesTo_S32768x16_S16_d0 h_S_

/-- A maximum, from minus infinity, of reals and minus infinities among which there is a real, is real. -/
theorem fold_max_real {ι : Type} [Fintype ι] (f : ι → EReal) (h : ∀ i, f i < ⊤) (i : ι) (hi : ⊥ < f i) :
    ∃ r : ℝ, Finset.univ.fold max ⊥ f = r := by
  have hlt : Finset.univ.fold max ⊥ f < ⊤ := (Finset.fold_max_lt _).2 ⟨bot_lt_top, fun j _ => h j⟩
  have hgt : ⊥ < Finset.univ.fold max ⊥ f := (Finset.lt_fold_max _).2 (Or.inr ⟨i, Finset.mem_univ i, hi⟩)
  exact ⟨_, (EReal.coe_toReal hlt.ne hgt.ne').symm⟩

/-- When the scores are real, so is the largest of every graph. -/
theorem segMax_real (q : IVec S32768 32) (s : FVec Ideal S32768 .f32) (hq : ∀ n, q (ix1 n) = BitVec.ofNat 32 (graphOf n))
    (hs : ∀ n : Fin 32768, ∃ r : ℝ, s (ix1 n) = (r : EReal)) (g : Fin 16) : ∃ r : ℝ, segMax q s (ix1 g) = (r : EReal) := by
  unfold segMax
  pointwise
  rw [neg_inf_bits]
  have hc (n : Fin 32768) : IntOp.cmpi .eq (q (ix1 n)) (BitVec.ofNat 32 g) = if graphOf n = g then 1#1 else 0#1 := by
    have hn := (graphOf n).isLt
    rw [hq, WordCmp.cmpi_eq_ofNat (by omega) (by omega), WordCmp.ofBool_decide_eq_ite]
    simp only [Fin.ext_iff]
  simp only [hc, column_at]
  refine fold_max_real _ (fun n => ?_) (nodeOf g 0) ?_
  · obtain ⟨r, hr⟩ := hs n
    split
    · exact hr ▸ EReal.coe_lt_top r
    · exact neg_inf_bits.trans_lt bot_lt_top
  · obtain ⟨r, hr⟩ := hs (nodeOf g 0)
    rw [if_pos (Fin.ext (by show (g.val * 2048 + 0) / 2048 = g.val; omega))]
    exact hr ▸ EReal.bot_lt_coe r

/-- The sum over every graph of a number per node. -/
def segSum (q : IVec S32768 32) (e : FVec Ideal S32768 .f32) : FVec Ideal S16 .f32 :=
  Host.scatterAdd scatter_S16_S32768x1_S32768_n_0_0_1 (broadcastInDim S16 ![] bcast_S_S16 (constant S_ .f32 0x00000000#32)) (column q) e

/-- A sum over the nodes of a graph, among all nodes, is the sum over its 2048 nodes in a row. -/
theorem sum_graph (f : Fin 32768 → EReal) (g : Fin 16) :
    (∑ n, if graphOf n = g then f n else 0) = ∑ i, f (nodeOf g i) := by
  rw [Fin.sum_univ_tiles 16 2048 rfl]
  rw [Finset.sum_eq_single g (fun k _ hk => Finset.sum_eq_zero fun i _ => if_neg fun e => hk ?_) (fun h => absurd (Finset.mem_univ g) h)]
  · refine Finset.sum_congr rfl fun i _ => if_pos (Fin.ext ?_)
    show (g.val * 2048 + i.val) / 2048 = g.val
    omega
  · rw [← e]
    refine Fin.ext ?_
    show k.val = (k.val * 2048 + i.val) / 2048
    omega

/-- Which entry of the sums a node's number is added to. -/
theorem segSum_lands (q : IVec S32768 32) (n : Fin 32768) (g : Fin 16) (hq : q (ix1 n) = BitVec.ofNat 32 (graphOf n)) :
    scatter_S16_S32768x1_S32768_n_0_0_1.resultIdx? (ix1 n) (column q) = some (ix1 g) ↔ graphOf n = g := by
  have hs : scatter_S16_S32768x1_S32768_n_0_0_1.start (ix1 n) (column q) 0 = (column q (ix2 n 0)).toInt := by
    unfold ScatterDims.start
    rw [dif_pos (show (0 : Fin 1) ∈ scatter_S16_S32768x1_S32768_n_0_0_1.scatterDimsToOperandDims from List.mem_singleton.2 rfl)]
    refine congrArg (fun i => (column q i).toInt) (funext fun a => Fin.ext ?_)
    match a with
    | ⟨0, _⟩ => rfl
    | ⟨1, _⟩ => rfl
  have hw : scatter_S16_S32768x1_S32768_n_0_0_1.window (ix1 n) 0 = 0 := rfl
  refine (Routing.resultIdx?_ix1 _ _ _ g).trans ?_
  rw [hs, hw, column_at, hq, StableHlo.Predicate.toInt_ofNat_small _ (by have := (graphOf n).isLt; omega), Fin.ext_iff]
  omega

/-- The sum of a graph is the sum over its 2048 nodes in a row. -/
theorem segSum_at (q : IVec S32768 32) (e : FVec Ideal S32768 .f32) (hq : ∀ n, q (ix1 n) = BitVec.ofNat 32 (graphOf n)) (g : Fin 16) :
    segSum q e (ix1 g) = ∑ i, e (ix1 (nodeOf g i)) := by
  rw [← sum_graph (fun n => e (ix1 n))]
  have hl (n : Fin 32768) := segSum_lands q n g (hq n)
  show broadcastInDim S16 ![] bcast_S_S16 (constant (F := Ideal) S_ .f32 0x00000000#32) (ix1 g) + (∑ j ∈ _, e j) = _
  rw [Finset.sum_filter, sum_idx1]
  pointwise
  exact Finset.sum_congr rfl fun n _ => if_congr (hl n) rfl rfl

/-- The sum over every graph of a row of numbers per node. -/
def segRows (q : IVec S32768 32) (x : FVec Ideal S32768x128 .f32) : FVec Ideal S16x128 .f32 :=
  Host.scatterAdd scatter_S16x128_S32768x1_S32768x128_1_0_0_1 (broadcastInDim S16x128 ![] bcast_S_S16x128 (constant S_ .f32 0x00000000#32)) (column q) x

/-- Which entry of the sums an entry of a node's row is added to. -/
theorem segRows_lands (q : IVec S32768 32) (n : Fin 32768) (k : Fin 128) (g : Fin 16) (d : Fin 128)
    (hq : q (ix1 n) = BitVec.ofNat 32 (graphOf n)) :
    scatter_S16x128_S32768x1_S32768x128_1_0_0_1.resultIdx? (ix2 n k) (column q) = some (ix2 g d) ↔ k = d ∧ graphOf n = g := by
  have hs : scatter_S16x128_S32768x1_S32768x128_1_0_0_1.start (ix2 n k) (column q) 0 = (column q (ix2 n 0)).toInt := by
    unfold ScatterDims.start
    rw [dif_pos (show (0 : Fin 2) ∈ scatter_S16x128_S32768x1_S32768x128_1_0_0_1.scatterDimsToOperandDims from List.mem_singleton.2 rfl)]
    refine congrArg (fun i => (column q i).toInt) (funext fun a => Fin.ext ?_)
    match a with
    | ⟨0, _⟩ => rfl
    | ⟨1, _⟩ => rfl
  have hs' : scatter_S16x128_S32768x1_S32768x128_1_0_0_1.start (ix2 n k) (column q) 1 = 0 := rfl
  have hw : scatter_S16x128_S32768x1_S32768x128_1_0_0_1.window (ix2 n k) 0 = 0 := rfl
  have hw' : scatter_S16x128_S32768x1_S32768x128_1_0_0_1.window (ix2 n k) 1 = (k : ℕ) := rfl
  rw [ix2_eq_valueIdx g d]
  refine (Routing.resultIdx?_ix2 _ _ _ g d).trans ?_
  rw [hs, hw, hs', hw', column_at, hq, StableHlo.Predicate.toInt_ofNat_small _ (by have := (graphOf n).isLt; omega), Fin.ext_iff, Fin.ext_iff]
  omega

/-- Entry `d` of the sum of the rows of a graph. -/
theorem segRows_at (q : IVec S32768 32) (x : FVec Ideal S32768x128 .f32) (hq : ∀ n, q (ix1 n) = BitVec.ofNat 32 (graphOf n))
    (g : Fin 16) (d : Fin 128) : segRows q x (ix2 g d) = ∑ i, x (ix2 (nodeOf g i) d) := by
  rw [← sum_graph (fun n => x (ix2 n d))]
  have hl (n : Fin 32768) (k : Fin 128) := segRows_lands q n k g d (hq n)
  show broadcastInDim S16x128 ![] bcast_S_S16x128 (constant (F := Ideal) S_ .f32 0x00000000#32) (ix2 g d) + (∑ j ∈ _, x j) = _
  rw [Finset.sum_filter, sum_idx2]
  pointwise
  refine Finset.sum_congr rfl fun n _ => ?_
  refine (Finset.sum_congr rfl fun k _ => if_congr (hl n k) rfl rfl).trans ?_
  rw [Finset.sum_eq_single d (fun k _ hk => if_neg fun h => hk h.1) (fun h => absurd (Finset.mem_univ d) h)]
  exact if_congr (and_iff_right rfl) rfl rfl

end Cert.Pooling

end
-- ==== Proof.Reference.lean ====
/-
  What the reference computes: its two results, operation by operation, read as the softmax of the scores over every
  graph and the sum of the features it weights.
-/
module

public import proofs.«01_k».proof.Proof.Segments
public import proofs.«01_k».proof.Proof.Gen.ReferenceIdeal.Run

@[expose] public section

set_option maxRecDepth 16384

noncomputable section

namespace Cert.Pooling

open Idealize.ShloMosaic Idealize.SL.Sem
open Cert.ReferenceIdeal Cert.ReferenceIdeal.Gen

/-- One linear layer, at all nodes. -/
def layer (X : FVec Ideal S32768x128 .f32) (A : FVec Ideal S128x64 .f32) (a : FVec Ideal S64 .f32) : FVec Ideal S32768x64 .f32 :=
  addf (Host.dotGeneral dot_S32768x128_S128x64_S32768x64_1_0_0_1_n_n none X A)
    (broadcastInDim S32768x64 ![0, 1] bcast_S1x64_S32768x64_0_1 (broadcastInDim S1x64 ![1] bcast_S64_S1x64_1 a))

/-- An entry of a layer: the node's row times a column of the weights, plus the bias. -/
theorem layer_at (X : FVec Ideal S32768x128 .f32) (A : FVec Ideal S128x64 .f32) (a : FVec Ideal S64 .f32) (n : Fin 32768) (e : Fin 64) :
    layer X A a (ix2 n e) = linear (fun k => X (ix2 n k)) A a e := by
  unfold layer linear
  pointwise

/-- The logistic function, at all nodes and channels. -/
def sigmoid (y : FVec Ideal S32768x64 .f32) : FVec Ideal S32768x64 .f32 :=
  Host.divf (broadcastInDim S32768x64 ![] bcast_S_S32768x64 (constant S_ .f32 0x3F800000#32))
    (addf (broadcastInDim S32768x64 ![] bcast_S_S32768x64 (constant S_ .f32 0x3F800000#32)) (Host.exp (Host.negf y)))

/-- The reference's sigmoid is the logistic function at every entry. -/
theorem sigmoid_at (y : FVec Ideal S32768x64 .f32) (n : Fin 32768) (e : Fin 64) : sigmoid y (ix2 n e) = Ideal.logistic (y (ix2 n e)) := by
  unfold sigmoid
  pointwise
  rfl

/-- The scores of all nodes. -/
def scores (X : FVec Ideal S32768x128 .f32) (V : FVec Ideal S128x64 .f32) (v : FVec Ideal S64 .f32) (U : FVec Ideal S128x64 .f32)
    (u : FVec Ideal S64 .f32) (w : FVec Ideal S64x1 .f32) (b : FVec Ideal S1 .f32) : FVec Ideal S32768 .f32 :=
  shapeCast S32768 (addf (Host.dotGeneral dot_S32768x64_S64x1_S32768x1_1_0_0_1_n_n none
      (mulf (Host.tanh (layer X V v)) (sigmoid (layer X U u))) w)
    (broadcastInDim S32768x1 ![0, 1] bcast_S1x1_S32768x1_0_1 (broadcastInDim S1x1 ![1] bcast_S1_S1x1_1 b))) shapeCasts_S32768x1_S32768

/-- The reference's score of node `n` is that node's score. -/
theorem scores_at (X : FVec Ideal S32768x128 .f32) (V : FVec Ideal S128x64 .f32) (v : FVec Ideal S64 .f32) (U : FVec Ideal S128x64 .f32)
    (u : FVec Ideal S64 .f32) (w : FVec Ideal S64x1 .f32) (b : FVec Ideal S1 .f32) (n : Fin 32768) :
    scores X V v U u w b (ix1 n) = scoreAt X V v U u w b n := by
  unfold scores scoreAt score
  pointwise
  simp only [layer_at, sigmoid_at]

/-- The exponentials of the scores, each less the largest of its graph. -/
def exponentials (q : IVec S32768 32) (s : FVec Ideal S32768 .f32) : FVec Ideal S32768 .f32 :=
  Host.exp (subf s (spread (segMax q s) q))

/-- The attention weights: the exponentials divided by their sum over the graph. -/
def weights (q : IVec S32768 32) (s : FVec Ideal S32768 .f32) : FVec Ideal S32768 .f32 :=
  Host.divf (exponentials q s) (spread (segSum q (exponentials q s)) q)

/-- The pooled features: the sum over the graph of the features, weighted. -/
def pool (q : IVec S32768 32) (s : FVec Ideal S32768 .f32) (X : FVec Ideal S32768x128 .f32) : FVec Ideal S16x128 .f32 :=
  segRows q (mulf (broadcastInDim S32768x128 ![0, 1] bcast_S32768x1_S32768x128_0_1 (column (weights q s))) X)

section Softmax

variable (q : IVec S32768 32) (hq : ∀ n, q (ix1 n) = BitVec.ofNat 32 (graphOf n))
  (s : FVec Ideal S32768 .f32) (hs : ∀ n : Fin 32768, ∃ r : ℝ, s (ix1 n) = (r : EReal))

include hq in
/-- The exponential of a node's score less the largest of its graph. -/
theorem exponentials_at (n : Fin 32768) :
    exponentials q s (ix1 n) = Ideal.exp (s (ix1 n) - segMax q s (ix1 (graphOf n))) := by
  rw [← spread_at (segMax q s) q n (hq n)]
  unfold exponentials
  pointwise

/-- Node `i` of a node's graph belongs to that graph. -/
theorem graphOf_nodeOf (g : Fin 16) (i : Fin 2048) : graphOf (nodeOf g i) = g :=
  Fin.ext (by show (g.val * 2048 + i.val) / 2048 = g.val; omega)

include hq hs in
/-- The attention weight of a node, free of the largest score. -/
theorem weights_at (n : Fin 32768) :
    weights q s (ix1 n) = Ideal.exp (s (ix1 n)) * Ideal.div 1 (∑ i, Ideal.exp (s (ix1 (nodeOf (graphOf n) i)))) := by
  obtain ⟨M, hM⟩ := segMax_real q s hq hs (graphOf n)
  choose r hr using hs
  have hsum : spread (segSum q (exponentials q s)) q (ix1 n) = ∑ i, Ideal.exp (((r (nodeOf (graphOf n) i) : ℝ) : EReal) - (M : EReal)) := by
    rw [spread_at _ _ _ (hq n), segSum_at _ _ hq]
    refine Finset.sum_congr rfl fun i _ => ?_
    rw [exponentials_at q hq, graphOf_nodeOf, hM, hr]
  have hi : n = nodeOf (graphOf n) ⟨n % 2048, Nat.mod_lt _ (by decide)⟩ :=
    Fin.ext (by show n.val = n.val / 2048 * 2048 + n.val % 2048; omega)
  have h := softmax (fun i => r (nodeOf (graphOf n) i)) M ⟨n % 2048, Nat.mod_lt _ (by decide)⟩
  rw [← hi] at h
  unfold weights
  pointwise
  rw [hsum, exponentials_at q hq, hM]
  simp only [hr]
  exact h

include hq hs in
/-- A feature of a graph, free of the largest score, its division last. -/
theorem pool_at_node (X : FVec Ideal S32768x128 .f32) (g : Fin 16) (d : Fin 128) :
    pool q s X (ix2 g d) = (∑ i, Ideal.exp (s (ix1 (nodeOf g i))) * X (ix2 (nodeOf g i) d))
      * Ideal.div 1 (∑ i, Ideal.exp (s (ix1 (nodeOf g i)))) := by
  unfold pool
  rw [segRows_at _ _ hq]
  pointwise
  simp only [column_at, weights_at q hq s hs, graphOf_nodeOf]
  choose r hr using hs
  simp only [hr]
  obtain ⟨a, ha, hA⟩ := recip_real (fun i => r (nodeOf g i))
  rw [hA, sum_mul_real _ _ ha]
  exact Finset.sum_congr rfl fun i _ => by rw [mul_right_comm]

end Softmax

section Results

variable (m : (ℓ : Loc nD τ sig) → Buf (Elt Ideal) ℓ) (c : Dev nD)

/-- The reference's first result, in the operations named here. -/
theorem out0_eq : Value.res_out0 m c = column (weights (seg (m ((c.tc : Thread nD τ).loc main_arg1)))
    (scores (m ((c.tc : Thread nD τ).loc main_arg0)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)))) := by
  unfold Value.res_out0 Value.res_main_v53
  rfl

/-- The reference's second result, in the operations named here. -/
theorem out1_eq : Value.res_out1 m c = pool (seg (m ((c.tc : Thread nD τ).loc main_arg1)))
    (scores (m ((c.tc : Thread nD τ).loc main_arg0)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8))) (m ((c.tc : Thread nD τ).loc main_arg0)) := by
  unfold Value.res_out1 Value.res_main_v58
  rfl

end Results

end Cert.Pooling

end
-- ==== Proof.Precondition.lean ====
/-
  What the precondition says: every graph has 2048 nodes, and the last layer's weights and bias are real.
-/
module

public import proofs.«01_k».proof.Proof.Spec
public import proofs.«01_k».proof.Proof.Gen.Pre_equal_graphs_finite_scorer
public import Idealize.ShloMosaic.Lib.ReduceAll
public import Idealize.ShloMosaic.Lib.WordCmp
public import Idealize.ShloMosaic.Lib.Pointwise

@[expose] public section

set_option maxRecDepth 16384

noncomputable section

namespace Cert.Pooling

open Idealize.ShloMosaic Idealize.SL.Sem
open Cert.Pre_equal_graphs_finite_scorer Cert.Pre_equal_graphs_finite_scorer.Gen

/-- A number whose magnitude is below the infinity is real. -/
theorem real_of_abs_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [inf_bits] at h
  have hlt : max x (-x) < ⊤ := (Ideal.cmp_olt_eq_one _ _).1 h
  rw [max_lt_iff] at hlt
  refine ⟨x.toReal, (EReal.coe_toReal hlt.1.ne fun hb => ?_).symm⟩
  rw [hb, EReal.neg_bot] at hlt
  exact lt_irrefl _ hlt.2

section

variable (X : FVec Ideal S32768x128 .f32) (p : IVec S17 32) (y : FVec Ideal S16 .f32) (V : FVec Ideal S128x64 .f32) (v : FVec Ideal S64 .f32)
  (U : FVec Ideal S128x64 .f32) (u : FVec Ideal S64 .f32) (w : FVec Ideal S64x1 .f32) (b : FVec Ideal S1 .f32)
  (h : fn (F := Ideal) X p y V v U u w b = fun _ => 1#1)

include h

/-- Graph `k` begins at node `2048 k`, and the weights and the bias of the last layer are real. -/
theorem precondition : (∀ k : Fin 17, p (ix1 k) = BitVec.ofNat 32 (k * 2048)) ∧ (∀ e : Fin 64, ∃ r : ℝ, w (ix2 e 0) = (r : EReal))
    ∧ ∃ r : ℝ, b (ix1 0) = (r : EReal) := by
  have h0 := congrFun h ix0
  obtain ⟨h1, hb⟩ := IntOp.andi_eq_one.1 h0
  obtain ⟨hp, hw⟩ := IntOp.andi_eq_one.1 h1
  refine ⟨fun k => ?_, fun e => ?_, ?_⟩
  · have e := Host.reduce_andi_eq_one _ _ _ _ _ hp (ix1 k) (Subsingleton.elim _ _)
    have e' := eq_of_beq ((WordCmp.ofBool_eq_one_iff _).1 e)
    refine e'.trans ?_
    pointwise
    exact WordCmp.muli_ofNat _ _
  · exact real_of_abs_lt _ (Host.reduce_andi_eq_one _ _ _ _ _ hw (ix2 e 0) (Subsingleton.elim _ _))
  · exact real_of_abs_lt _ (Host.reduce_andi_eq_one _ _ _ _ _ hb (ix1 0) (Subsingleton.elim _ _))

end

end Cert.Pooling

end
-- ==== Proof.Final.lean ====
/-
  The kernel's run, and the equation: under the precondition the reference's two results are the kernel's.
-/
module

public import proofs.«01_k».proof.Proof.Arrays
public import proofs.«01_k».proof.Proof.Reference
public import proofs.«01_k».proof.Proof.Precondition

@[expose] public section

set_option maxRecDepth 16384

noncomputable section

namespace Cert.Pooling

open Idealize.ShloMosaic Idealize.ShloMosaic.TcCoe Idealize.SL.Sem

section Kernel

open Cert.KernelIdeal Cert.KernelIdeal.Gen

variable (m : (ℓ : Loc nD τ sig) → Buf (Elt Ideal) ℓ) (c : Dev nD)

/-- The attention weights of all nodes, as the arguments determine them. -/
def attentionOut : Mat 32768 1 := fun j =>
  attention (argX m c) (argV m c) (argv m c) (argU m c) (argu m c) (argw m c) (argb m c) (j 0)

/-- The pooled features of all graphs, as the arguments determine them. -/
def pooledOut : Mat 16 128 := fun j =>
  pooled (argX m c) (argV m c) (argv m c) (argU m c) (argu m c) (argw m c) (argb m c) (j 0) (j 1)

/-- The last operation only drops the middle axis of the pooled array, whose extent is one. -/
theorem tail_pooled : Pipeline.afterTail₀ cfgs (dats m) 0 (V0 m) [hostOps1] c main_v9 = pooledOut m c := by
  have array : Pipeline.withArrays (cfgs 0).spec c (V0 m c) (fun w => (dats m 0 c).arrAt w (cfgs 0).N) (Proc.devRef .tc main_v8_1)
      = (dats m 0 c).arrAt 6 (cfgs 0).N := Pipeline.withArrays_arr _ launch0.win.arr_inj c _ _ 6
  have e : Pipeline.afterTail₀ cfgs (dats m) 0 (V0 m) [hostOps1] c main_v9
      = shapeCast S16x128 (Pipeline.withArrays (cfgs 0).spec c (V0 m c) (fun w => (dats m 0 c).arrAt w (cfgs 0).N)
          (Proc.devRef .tc main_v8_1)) shapeCasts_S16x1x128_S16x128 := by
    unfold Pipeline.afterTail₀
    simp only [hostOps1, List.flatten_cons, List.flatten_nil, List.append_nil]
    after_results
    rfl
  refine e.trans ((congrArg (fun a : FVec Ideal S16x1x128 .f32 => shapeCast S16x128 a shapeCasts_S16x1x128_S16x128)
    (array.trans (final_pooled m c))).trans ?_)
  funext j
  idx_vars j
  unfold pooledOut
  pointwise

/-- The kernel's run: it ends with the attention weights and the pooled features, the arguments as they were. -/
theorem run_kernel (g : Dev nD → PrngReg) :
    θ_run defs (onTc (τ := τ) (main (F := Ideal))) ⟨m, fun _ => 0, g⟩ fun r => ∀ c : Dev nD,
      r.2.mem ((c : Thread nD τ).loc main_v8_0) = attentionOut m c
      ∧ r.2.mem ((c : Thread nD τ).loc main_v9) = pooledOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨((h.1 c).1 5).trans (final_attention m c),
      ((h.1 c).2 main_v9 (Pipeline.mem_restRefs_of main_v9 (by decide) (by decide))).trans (tail_pooled m c), h.2 c⟩)
    (θ_run_and (run_main m g) (unchanged m g))

end Kernel

section Reference

open Cert.ReferenceIdeal Cert.ReferenceIdeal.Gen

variable (X : Mat 32768 128) (p : IVec S17 32) (V : Mat 128 64) (v : Arr 64) (U : Mat 128 64) (u : Arr 64) (w : Mat 64 1) (b : Arr 1)
  (hp : ∀ k : Fin 17, p (ix1 k) = BitVec.ofNat 32 (k * 2048)) (hw : ∀ e : Fin 64, ∃ r : ℝ, w (ix2 e 0) = (r : EReal))
  (hb : ∃ r : ℝ, b (ix1 0) = (r : EReal))

include hw hb in
/-- Every score is real. -/
theorem scores_real (n : Fin 32768) : ∃ r : ℝ, scores X V v U u w b (ix1 n) = (r : EReal) := by
  rw [scores_at]
  exact score_real V v U u hw hb _

include hp hw hb

/-- The reference's attention weights. -/
theorem reference_attention : column (weights (seg p) (scores X V v U u w b)) = fun j : S32768x1.Idx => attention X V v U u w b (j 0) := by
  funext j
  idx_vars j
  rw [column_at, weights_at _ (seg_at p hp) _ (scores_real X V v U u w b hw hb)]
  simp only [scores_at]
  rfl

/-- The reference's pooled features. -/
theorem reference_pooled : pool (seg p) (scores X V v U u w b) X = fun j : S16x128.Idx => pooled X V v U u w b (j 0) (j 1) := by
  funext j
  idx_vars j
  rw [pool_at_node _ (seg_at p hp) _ (scores_real X V v U u w b hw hb)]
  simp only [scores_at]
  rfl

end Reference

end Cert.Pooling

end
-- ==== Proof.lean ====
/-
  The certificate of the gated attention pooling kernel: the frames of the kernel, of its idealization and of the
  reference (each run ends, with the arguments unchanged and every semaphore counter at zero), and the equation: over the
  extended reals the kernel and the reference leave the same attention weights and the same pooled features.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_equal_graphs_finite_scorer
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference's run leaves every argument as it was; the program declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2,
    Idealize.ShloMosaic.sem_eq_zero_of_no_sems (by decide) r.2⟩) (Cert.ReferenceIdeal.Value.run (F := Ideal) m g)

/-- Where the precondition holds and the arguments agree, the kernel and the reference end with the same attention weights
    and the same pooled features, both with their arguments as they were. -/
theorem equation : Cert.algebraic_KernelIdeal_ReferenceIdeal_pre_equal_graphs_finite_scorer (hKernelIdeal := Cert.KernelIdeal.Gen.facts)
    (hReferenceIdeal := Cert.ReferenceIdeal.Gen.facts)
    (hPre_equal_graphs_finite_scorer := Cert.Pre_equal_graphs_finite_scorer.Gen.facts) := by
  intro m g m' g' pre agree
  refine ⟨Cert.Pooling.attentionOut m, Cert.Pooling.pooledOut m, Cert.Pooling.run_kernel m g, ?_⟩
  refine (θ_run Cert.ReferenceIdeal.defs _ _).mono (fun r h c => ?_) (Cert.ReferenceIdeal.Value.run (F := Ideal) m' g')
  obtain ⟨e0, e1, -, e3, e4, e5, e6, e7, e8⟩ := agree c
  obtain ⟨hp, hw, hb⟩ := Cert.Pooling.precondition _ _ _ _ _ _ _ _ _ (pre c)
  refine ⟨(h c).1.trans ?_, (h c).2.1.trans ?_, (h c).2.2⟩
  · refine (Cert.Pooling.out0_eq m' c).trans ?_
    rw [e0, e1, e3, e4, e5, e6, e7, e8]
    exact Cert.Pooling.reference_attention _ _ _ _ _ _ _ _ hp hw hb
  · refine (Cert.Pooling.out1_eq m' c).trans ?_
    rw [e0, e1, e3, e4, e5, e6, e7, e8]
    exact Cert.Pooling.reference_pooled _ _ _ _ _ _ _ _ hp hw hb

/-- The certificate. -/
theorem claim : Cert.Claim := ⟨Cert.Kernel.Gen.facts, Cert.KernelIdeal.Gen.facts, Cert.ReferenceIdeal.Gen.facts,
  Cert.Pre_equal_graphs_finite_scorer.Gen.facts, fun m g _ => Cert.Kernel.Gen.frame m g, fun m g _ => Cert.KernelIdeal.Gen.frame m g,
  fun m g _ => Cert.KernelIdeal.Gen.frame m g, frame_reference, fun m g _ => frame_reference m g trivial, trivial, equation⟩

end Cert.Proof

end
